-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "two_over_n" .f32 0x3CAAAAAB#32 ((48⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S512x1024x96 : Shape := ⟨3, ![512, 1024, 96]⟩
abbrev S192x96 : Shape := ⟨2, ![192, 96]⟩
abbrev S96x192 : Shape := ⟨2, ![96, 192]⟩
abbrev S96 : Shape := ⟨1, ![96]⟩
abbrev S_ : Shape := ⟨0, ![]⟩

class Facts : Prop where
  bcast_S_S512x1024x96 : S_.BroadcastsInDim S512x1024x96 (![] : Fin 0 → Fin S512x1024x96.rank)
  reducesTo_S512x1024x96_S_d0_1_2 : S512x1024x96.ReducesTo [0, 1, 2] S_
  h_S_ : 0 < S_.numel
  bcast_S_S192x96 : S_.BroadcastsInDim S192x96 (![] : Fin 0 → Fin S192x96.rank)
  reducesTo_S192x96_S_d0_1 : S192x96.ReducesTo [0, 1] S_
  bcast_S_S96 : S_.BroadcastsInDim S96 (![] : Fin 0 → Fin S96.rank)
  reducesTo_S96_S_d0 : S96.ReducesTo [0] S_

variable [Facts]

def fn {F : FTy → Type} [FloatOps F] (main_arg0 : FVec F S512x1024x96 .f32) (main_arg1 : FVec F S192x96 .f32) (main_arg2 : FVec F S96x192 .f32) (main_arg3 : FVec F S96 .f32) (main_arg4 : FVec F S96 .f32) : IVec S_ 1 :=
  let main_v0 : FVec F S512x1024x96 .f32 := Host.absf main_arg0
  let main_cst : FVec F S_ .f32 := constant S_ .f32 0x7F800000#32
  let main_v1 : FVec F S512x1024x96 .f32 := broadcastInDim S512x1024x96 ![] bcast_S_S512x1024x96 main_cst
  let main_v2 : IVec S512x1024x96 1 := cmpf .olt main_v0 main_v1
  let main_c : IVec S_ 1 := constantI S_ 1 1#1
  let main_v3 : IVec S_ 1 := (fun x v => Host.reduce IntOp.andi x v reducesTo_S512x1024x96_S_d0_1_2 h_S_) main_v2 main_c
  let main_v4 : FVec F S192x96 .f32 := Host.absf main_arg1
  let main_cst_0 : FVec F S_ .f32 := constant S_ .f32 0x7F800000#32
  let main_v5 : FVec F S192x96 .f32 := broadcastInDim S192x96 ![] bcast_S_S192x96 main_cst_0
  let main_v6 : IVec S192x96 1 := cmpf .olt main_v4 main_v5
  let main_c_1 : IVec S_ 1 := constantI S_ 1 1#1
  let main_v7 : IVec S_ 1 := (fun x v => Host.reduce IntOp.andi x v reducesTo_S192x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  main_v13
-- ==== Kernel.lean ====
abbrev S512x1024x96 : Shape := ⟨3, ![512, 1024, 96]⟩
abbrev S192x96 : Shape := ⟨2, ![192, 96]⟩
abbrev S96x192 : Shape := ⟨2, ![96, 192]⟩
abbrev S96 : Shape := ⟨1, ![96]⟩
abbrev S524288x96 : Shape := ⟨2, ![524288, 96]⟩
abbrev S96x1 : Shape := ⟨2, ![96, 1]⟩
abbrev S1x96 : Shape := ⟨2, ![1, 96]⟩
abbrev S_ : Shape := ⟨0, ![]⟩
abbrev S96x96 : Shape := ⟨2, ![96, 96]⟩
abbrev S1x192 : Shape := ⟨2, ![1, 192]⟩
abbrev S2048x96 : Shape := ⟨2, ![2048, 96]⟩
abbrev S2048 : Shape := ⟨1, ![2048]⟩
abbrev S2048x1 : Shape := ⟨2, ![2048, 1]⟩
abbrev S2048x192 : Shape := ⟨2, ![2048, 192]⟩

abbrev nBuf : Space → Nat
  | .hbm => 53
  | .vmem => 11
  | .smem => 0
  | _ => 0

abbrev bufTy : (tb : Table) → Fin (tcTables nBuf tb) → BufTy
  | .hbm, ⟨0, _⟩ => ⟨S512x1024x96, .f32⟩
  | .hbm, ⟨1, _⟩ => ⟨S192x96, .f32⟩
  | .hbm, ⟨2, _⟩ => ⟨S96x192, .f32⟩
  | .hbm, ⟨3, _⟩ => ⟨S96, .f32⟩
  | .hbm, ⟨4, _⟩ => ⟨S96, .f32⟩
  | .hbm, ⟨5, _⟩ => ⟨S524288x96, .f32⟩
  | .hbm, ⟨6, _⟩ => ⟨S96, .f32⟩
  | .hbm, ⟨7, _⟩ => ⟨S96x1, .f32⟩
  | .hbm, ⟨8, _⟩ => ⟨S96, .f32⟩
  | .hbm, ⟨9, _⟩ => ⟨S1x96, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x96, .f32⟩
  | .hbm, ⟨14, _⟩ => ⟨S1x96, .f32⟩
  | .hbm, ⟨15, _⟩ => ⟨S_, .f32⟩
  | .hbm, ⟨16, _⟩ => ⟨S1x96, .f32⟩
  | .hbm, ⟨17, _⟩ => ⟨S1x96, .f32⟩
  | .hbm, ⟨18, _⟩ => ⟨S1x96, .f32⟩
  | .hbm, ⟨19, _⟩ => ⟨S1x96, .f32⟩
  | .hbm, ⟨20, _⟩ => ⟨S96x96, .f32⟩
  | .hbm, ⟨21, _⟩ => ⟨S96x96, .f32⟩
  | .hbm, ⟨22, _⟩ => ⟨S96x96, .f32⟩
  | .hbm, ⟨23, _⟩ => ⟨S_, .f32⟩
  | .hbm, ⟨24, _⟩ => ⟨S96x96, .f32⟩
  | .hbm, ⟨25, _⟩ => ⟨S96x96, .f32⟩
  | .hbm, ⟨26, _⟩ => ⟨S96x96, .f32⟩
  | .hbm, ⟨27, _⟩ => ⟨S_, .f32⟩
  | .hbm, ⟨28, _⟩ => ⟨S96x96, .f32⟩
  | .hbm, ⟨29, _⟩ => ⟨S96x96, .f32⟩
  | .hbm, ⟨30, _⟩ => ⟨S96x192, .f32⟩
  | .hbm, ⟨31, _⟩ => ⟨S96x96, .f32⟩
  | .hbm, ⟨32, _⟩ => ⟨S1x96, .f32⟩
  | .hbm, ⟨33, _⟩ => ⟨S96x96, .f32⟩
  | .hbm, ⟨34, _⟩ => ⟨S96x96, .f32⟩
  | .hbm, ⟨35, _⟩ => ⟨S96x192, .f32⟩
  | .hbm, ⟨36, _⟩ => ⟨S1x96, .f32⟩
  | .hbm, ⟨37, _⟩ => ⟨S1x192, .f32⟩
  | .hbm, ⟨38, _⟩ => ⟨S1x96, .f32⟩
  | .hbm, ⟨39, _⟩ => ⟨S1x192, .f32⟩
  | .hbm, ⟨40, _⟩ => ⟨S_, .f32⟩
  | .hbm, ⟨41, _⟩ => ⟨S96, .f32⟩
  | .hbm, ⟨42, _⟩ => ⟨S1x96, .f32⟩
  | .hbm, ⟨43, _⟩ => ⟨S_, .f32⟩
  | .hbm, ⟨44, _⟩ => ⟨S1x96, .f32⟩
  | .hbm, ⟨45, _⟩ => ⟨S1x96, .f32⟩
  | .hbm, ⟨46, _⟩ => ⟨S96x192, .bf16⟩
  | .hbm, ⟨47, _⟩ => ⟨S192x96, .f32⟩
  | .hbm, ⟨48, _⟩ => ⟨S192x96, .bf16⟩
  | .hbm, ⟨49, _⟩ => ⟨S1x96, .f32⟩
  | .hbm, ⟨50, _⟩ => ⟨S1x96, .f32⟩
  | .hbm, ⟨51, _⟩ => ⟨S524288x96, .f32⟩
  | .hbm, ⟨52, _⟩ => ⟨S512x1024x96, .f32⟩
  | .local _ .vmem, ⟨0, _⟩ => ⟨S2048x96, .f32⟩
  | .local _ .vmem, ⟨1, _⟩ => ⟨S2048x96, .f32⟩
  | .local _ .vmem, ⟨2, _⟩ => ⟨S96x192, .bf16⟩
  | .local _ .vmem, ⟨3, _⟩ => ⟨S1x192, .f32⟩
  | .local _ .vmem, ⟨4, _⟩ => ⟨S1x192, .f32⟩
  | .local _ .vmem, ⟨5, _⟩ => ⟨S192x96, .bf16⟩
  | .local _ .vmem, ⟨6, _⟩ => ⟨S1x96, .f32⟩
  | .local _ .vmem, ⟨7, _⟩ => ⟨S1x96, .f32⟩
  | .local _ .vmem, ⟨8, _⟩ => ⟨S1x96, .f32⟩
  | .local _ .vmem, ⟨9, _⟩ => ⟨S2048x96, .f32⟩
  | .local _ .vmem, ⟨10, _⟩ => ⟨S2048x96, .f32⟩
  | _, _ => ⟨S512x1024x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_cst : Ref sig .tc := ⟨.hbm, 10, rfl⟩
abbrev main_call0_v5 : Ref sig .tc := ⟨.hbm, 11, rfl⟩
abbrev main_call0_cst_0 : Ref sig .tc := ⟨.hbm, 12, rfl⟩
abbrev main_call0_v6 : Ref sig .tc := ⟨.hbm, 13, rfl⟩
abbrev main_call0_v7 : Ref sig .tc := ⟨.hbm, 14, rfl⟩
abbrev main_call0_cst_1 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst_2 : Ref sig .tc := ⟨.hbm, 23, rfl⟩
abbrev main_call0_v15 : Ref sig .tc := ⟨.hbm, 24, rfl⟩
abbrev main_call0_v16 : Ref sig .tc := ⟨.hbm, 25, rfl⟩
abbrev main_call0_v17 : Ref sig .tc := ⟨.hbm, 26, rfl⟩
abbrev main_call0_cst_3 : Ref sig .tc := ⟨.hbm, 27, rfl⟩
abbrev main_call0_v18 : Ref sig .tc := ⟨.hbm, 28, rfl⟩
abbrev main_call0_v19 : Ref sig .tc := ⟨.hbm, 29, rfl⟩
abbrev main_call0_v20 : Ref sig .tc := ⟨.hbm, 30, rfl⟩
abbrev main_call0_v21 : Ref sig .tc := ⟨.hbm, 31, rfl⟩
abbrev main_call0_v22 : Ref sig .tc := ⟨.hbm, 32, rfl⟩
abbrev main_call0_v23 : Ref sig .tc := ⟨.hbm, 33, rfl⟩
abbrev main_call0_v24 : Ref sig .tc := ⟨.hbm, 34, rfl⟩
abbrev main_call0_v25 : Ref sig .tc := ⟨.hbm, 35, rfl⟩
abbrev main_call0_v26 : Ref sig .tc := ⟨.hbm, 36, rfl⟩
abbrev main_call0_v27 : Ref sig .tc := ⟨.hbm, 37, rfl⟩
abbrev main_call0_v28 : Ref sig .tc := ⟨.hbm, 38, rfl⟩
abbrev main_call0_v29 : Ref sig .tc := ⟨.hbm, 39, rfl⟩
abbrev main_call0_cst_4 : Ref sig .tc := ⟨.hbm, 40, rfl⟩
abbrev main_call0_v30 : Ref sig .tc := ⟨.hbm, 41, rfl⟩
abbrev main_call0_v31 : Ref sig .tc := ⟨.hbm, 42, rfl⟩
abbrev main_call0_cst_5 : Ref sig .tc := ⟨.hbm, 43, rfl⟩
abbrev main_call0_v32 : Ref sig .tc := ⟨.hbm, 44, rfl⟩
abbrev main_call0_v33 : Ref sig .tc := ⟨.hbm, 45, rfl⟩
abbrev main_call0_v34 : Ref sig .tc := ⟨.hbm, 46, rfl⟩
abbrev main_call0_v35 : Ref sig .tc := ⟨.hbm, 47, rfl⟩
abbrev main_call0_v36 : Ref sig .tc := ⟨.hbm, 48, rfl⟩
abbrev main_call0_v37 : Ref sig .tc := ⟨.hbm, 49, rfl⟩
abbrev main_call0_v38 : Ref sig .tc := ⟨.hbm, 50, rfl⟩
abbrev main_call0_v39 : Ref sig .tc := ⟨.hbm, 51, rfl⟩
abbrev main_v0 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S192x96 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x96 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "two_over_n" => some ((48⁻¹ : ℝ) : EReal)
  | _ => none
-- ==== ReferenceIdeal.lean ====
abbrev S512x1024x96 : Shape := ⟨3, ![512, 1024, 96]⟩
abbrev S192x96 : Shape := ⟨2, ![192, 96]⟩
abbrev S96x192 : Shape := ⟨2, ![96, 192]⟩
abbrev S96 : Shape := ⟨1, ![96]⟩
abbrev S96x1 : Shape := ⟨2, ![96, 1]⟩
abbrev S1x96 : Shape := ⟨2, ![1, 96]⟩
abbrev S_ : Shape := ⟨0, ![]⟩
abbrev S96x96 : Shape := ⟨2, ![96, 96]⟩
abbrev S512x1024 : Shape := ⟨2, ![512, 1024]⟩
abbrev S512x1024x1 : Shape := ⟨3, ![512, 1024, 1]⟩
abbrev S1x1x96 : Shape := ⟨3, ![1, 1, 96]⟩
abbrev S512x1024x192 : Shape := ⟨3, ![512, 1024, 192]⟩

abbrev nBuf : Space → Nat
  | .hbm => 102
  | .vmem => 0
  | .smem => 0
  | _ => 0

abbrev bufTy : (tb : Table) → Fin (tcTables nBuf tb) → BufTy
  | .hbm, ⟨0, _⟩ => ⟨S512x1024x96, .f32⟩
  | .hbm, ⟨1, _⟩ => ⟨S192x96, .f32⟩
  | .hbm, ⟨2, _⟩ => ⟨S96x192, .f32⟩
  | .hbm, ⟨3, _⟩ => ⟨S96, .f32⟩
  | .hbm, ⟨4, _⟩ => ⟨S96, .f32⟩
  | .hbm, ⟨5, _⟩ => ⟨S96, .f32⟩
  | .hbm, ⟨6, _⟩ => ⟨S96x1, .f32⟩
  | .hbm, ⟨7, _⟩ => ⟨S96, .f32⟩
  | .hbm, ⟨8, _⟩ => ⟨S1x96, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x96, .f32⟩
  | .hbm, ⟨13, _⟩ => ⟨S1x96, .f32⟩
  | .hbm, ⟨14, _⟩ => ⟨S_, .f32⟩
  | .hbm, ⟨15, _⟩ => ⟨S1x96, .f32⟩
  | .hbm, ⟨16, _⟩ => ⟨S1x96, .f32⟩
  | .hbm, ⟨17, _⟩ => ⟨S1x96, .f32⟩
  | .hbm, ⟨18, _⟩ => ⟨S1x96, .f32⟩
  | .hbm, ⟨19, _⟩ => ⟨S96x96, .f32⟩
  | .hbm, ⟨20, _⟩ => ⟨S96x96, .f32⟩
  | .hbm, ⟨21, _⟩ => ⟨S96x96, .f32⟩
  | .hbm, ⟨22, _⟩ => ⟨S_, .f32⟩
  | .hbm, ⟨23, _⟩ => ⟨S96x96, .f32⟩
  | .hbm, ⟨24, _⟩ => ⟨S96x96, .f32⟩
  | .hbm, ⟨25, _⟩ => ⟨S96x96, .f32⟩
  | .hbm, ⟨26, _⟩ => ⟨S_, .f32⟩
  | .hbm, ⟨27, _⟩ => ⟨S96x96, .f32⟩
  | .hbm, ⟨28, _⟩ => ⟨S96x96, .f32⟩
  | .hbm, ⟨29, _⟩ => ⟨S512x1024x96, .f32⟩
  | .hbm, ⟨30, _⟩ => ⟨S_, .f32⟩
  | .hbm, ⟨31, _⟩ => ⟨S512x1024, .f32⟩
  | .hbm, ⟨32, _⟩ => ⟨S512x1024x1, .f32⟩
  | .hbm, ⟨33, _⟩ => ⟨S_, .f32⟩
  | .hbm, ⟨34, _⟩ => ⟨S512x1024x1, .f32⟩
  | .hbm, ⟨35, _⟩ => ⟨S512x1024x1, .f32⟩
  | .hbm, ⟨36, _⟩ => ⟨S512x1024x96, .f32⟩
  | .hbm, ⟨37, _⟩ => ⟨S512x1024x96, .f32⟩
  | .hbm, ⟨38, _⟩ => ⟨S512x1024x96, .f32⟩
  | .hbm, ⟨39, _⟩ => ⟨S_, .f32⟩
  | .hbm, ⟨40, _⟩ => ⟨S512x1024, .f32⟩
  | .hbm, ⟨41, _⟩ => ⟨S512x1024x1, .f32⟩
  | .hbm, ⟨42, _⟩ => ⟨S_, .f32⟩
  | .hbm, ⟨43, _⟩ => ⟨S512x1024x1, .f32⟩
  | .hbm, ⟨44, _⟩ => ⟨S512x1024x1, .f32⟩
  | .hbm, ⟨45, _⟩ => ⟨S512x1024x96, .f32⟩
  | .hbm, ⟨46, _⟩ => ⟨S512x1024x96, .f32⟩
  | .hbm, ⟨47, _⟩ => ⟨S_, .f32⟩
  | .hbm, ⟨48, _⟩ => ⟨S512x1024x1, .f32⟩
  | .hbm, ⟨49, _⟩ => ⟨S512x1024x1, .f32⟩
  | .hbm, ⟨50, _⟩ => ⟨S512x1024x1, .f32⟩
  | .hbm, ⟨51, _⟩ => ⟨S512x1024x96, .f32⟩
  | .hbm, ⟨52, _⟩ => ⟨S512x1024x96, .f32⟩
  | .hbm, ⟨53, _⟩ => ⟨S1x1x96, .f32⟩
  | .hbm, ⟨54, _⟩ => ⟨S512x1024x96, .f32⟩
  | .hbm, ⟨55, _⟩ => ⟨S512x1024x96, .f32⟩
  | .hbm, ⟨56, _⟩ => ⟨S1x1x96, .f32⟩
  | .hbm, ⟨57, _⟩ => ⟨S512x1024x96, .f32⟩
  | .hbm, ⟨58, _⟩ => ⟨S512x1024x96, .f32⟩
  | .hbm, ⟨59, _⟩ => ⟨S512x1024x192, .f32⟩
  | .hbm, ⟨60, _⟩ => ⟨S_, .f32⟩
  | .hbm, ⟨61, _⟩ => ⟨S512x1024x192, .f32⟩
  | .hbm, ⟨62, _⟩ => ⟨S512x1024x192, .f32⟩
  | .hbm, ⟨63, _⟩ => ⟨S512x1024x96, .f32⟩
  | .hbm, ⟨64, _⟩ => ⟨S512x1024x96, .f32⟩
  | .hbm, ⟨65, _⟩ => ⟨S512x1024x96, .f32⟩
  | .hbm, ⟨66, _⟩ => ⟨S_, .f32⟩
  | .hbm, ⟨67, _⟩ => ⟨S512x1024x96, .f32⟩
  | .hbm, ⟨68, _⟩ => ⟨S512x1024x96, .f32⟩
  | .hbm, ⟨69, _⟩ => ⟨S_, .f32⟩
  | .hbm, ⟨70, _⟩ => ⟨S512x1024x96, .f32⟩
  | .hbm, ⟨71, _⟩ => ⟨S512x1024x96, .f32⟩
  | .hbm, ⟨72, _⟩ => ⟨S_, .f32⟩
  | .hbm, ⟨73, _⟩ => ⟨S512x1024, .f32⟩
  | .hbm, ⟨74, _⟩ => ⟨S512x1024x1, .f32⟩
  | .hbm, ⟨75, _⟩ => ⟨S_, .f32⟩
  | .hbm, ⟨76, _⟩ => ⟨S512x1024x1, .f32⟩
  | .hbm, ⟨77, _⟩ => ⟨S512x1024x1, .f32⟩
  | .hbm, ⟨78, _⟩ => ⟨S512x1024x96, .f32⟩
  | .hbm, ⟨79, _⟩ => ⟨S512x1024x96, .f32⟩
  | .hbm, ⟨80, _⟩ => ⟨S512x1024x96, .f32⟩
  | .hbm, ⟨81, _⟩ => ⟨S_, .f32⟩
  | .hbm, ⟨82, _⟩ => ⟨S512x1024, .f32⟩
  | .hbm, ⟨83, _⟩ => ⟨S512x1024x1, .f32⟩
  | .hbm, ⟨84, _⟩ => ⟨S_, .f32⟩
  | .hbm, ⟨85, _⟩ => ⟨S512x1024x1, .f32⟩
  | .hbm, ⟨86, _⟩ => ⟨S512x1024x1, .f32⟩
  | .hbm, ⟨87, _⟩ => ⟨S512x1024x96, .f32⟩
  | .hbm, ⟨88, _⟩ => ⟨S512x1024x96, .f32⟩
  | .hbm, ⟨89, _⟩ => ⟨S_, .f32⟩
  | .hbm, ⟨90, _⟩ => ⟨S512x1024x1, .f32⟩
  | .hbm, ⟨91, _⟩ => ⟨S512x1024x1, .f32⟩
  | .hbm, ⟨92, _⟩ => ⟨S512x1024x1, .f32⟩
  | .hbm, ⟨93, _⟩ => ⟨S512x1024x96, .f32⟩
  | .hbm, ⟨94, _⟩ => ⟨S512x1024x96, .f32⟩
  | .hbm, ⟨95, _⟩ => ⟨S1x1x96, .f32⟩
  | .hbm, ⟨96, _⟩ => ⟨S512x1024x96, .f32⟩
  | .hbm, ⟨97, _⟩ => ⟨S512x1024x96, .f32⟩
  | .hbm, ⟨98, _⟩ => ⟨S1x1x96, .f32⟩
  | .hbm, ⟨99, _⟩ => ⟨S512x1024x96, .f32⟩
  | .hbm, ⟨100, _⟩ => ⟨S512x1024x96, .f32⟩
  | .hbm, ⟨101, _⟩ => ⟨S512x1024x96, .f32⟩
  | _, _ => ⟨S512x1024x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call0_cst : Ref sig .tc := ⟨.hbm, 60, rfl⟩
abbrev main_call0_v0 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_13 : Ref sig .tc := ⟨.hbm, 81, rfl⟩
abbrev main_v60 : Ref sig .tc := ⟨.hbm, 82, rfl⟩
abbrev main_v61 : Ref sig .tc := ⟨.hbm, 83, rfl⟩
abbrev main_cst_14 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_15 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== Proof.Dct.lean ====
/- The discrete cosine transform of length 96 over the real numbers: its matrix, the inner products of the matrix's
   columns, and the mean and the variance of a transformed vector in terms of the vector itself. -/
module

public import Mathlib.Analysis.SpecialFunctions.Trigonometric.Basic
public import Idealize.ShloMosaic.PureOps.Ideal

@[expose] public section

noncomputable section

namespace Cert.Dct

open Real Finset

/-- The transform's matrix: row `k` (a frequency), column `i` (a position). -/
def entry (k i : Fin 96) : ℝ := 2 * cos (π * (2 * (i : ℝ) + 1) * (k : ℝ) / 192)

/-- The transform of a vector. -/
def coef (x : Fin 96 → ℝ) (k : Fin 96) : ℝ := ∑ i, x i * entry k i

/-- A sum of `n` cosines at equally spaced angles, times twice the sine of half the step, telescopes. -/
theorem two_sin_mul_sum (t : ℝ) (n : ℕ) :
    2 * sin t * ∑ k ∈ range n, cos ((k : ℝ) * (2 * t)) = sin ((2 * (n : ℝ) - 1) * t) + sin t := by
  induction n with
  | zero => simp
  | succ n ih =>
    rw [sum_range_succ, mul_add, ih]
    have h1 : (2 * ((n + 1 : ℕ) : ℝ) - 1) * t = (n : ℝ) * (2 * t) + t := by push_cast; ring
    have h2 : (2 * (n : ℝ) - 1) * t = (n : ℝ) * (2 * t) - t := by ring
    rw [h1, h2, sin_add, sin_sub]
    ring

/-- The sum of 96 cosines at the multiples of `m π / 96`, for a whole number `m` that 192 does not divide: one for odd
    `m`, zero for even `m`. -/
theorem sum_cos (m : ℤ) (hm : ¬ (192 : ℤ) ∣ m) :
    ∑ k : Fin 96, cos (((k : ℕ) : ℝ) * ((m : ℝ) * π / 96)) = (1 - (-1 : ℝ) ^ m) / 2 := by
  have hs : sin ((m : ℝ) * π / 192) ≠ 0 := by
    intro h
    obtain ⟨n, hn⟩ := sin_eq_zero_iff.mp h
    apply hm
    refine ⟨n, ?_⟩
    have : (m : ℝ) * π = ((192 * n : ℤ) : ℝ) * π := by push_cast; linarith
    exact_mod_cast mul_right_cancel₀ pi_ne_zero this
  have h := two_sin_mul_sum ((m : ℝ) * π / 192) 96
  have ha : (2 * ((96 : ℕ) : ℝ) - 1) * ((m : ℝ) * π / 192) = (m : ℝ) * π - (m : ℝ) * π / 192 := by push_cast; ring
  have hb : 2 * ((m : ℝ) * π / 192) = (m : ℝ) * π / 96 := by ring
  rw [ha, hb, sin_sub, sin_int_mul_pi, cos_int_mul_pi, Finset.sum_range] at h
  apply mul_left_cancel₀ (mul_ne_zero two_ne_zero hs)
  rw [h]; ring

/-- The product of two entries of one row, as a sum of two cosines. -/
theorem entry_mul (k i j : Fin 96) :
    entry k i * entry k j
      = 2 * (cos (((k : ℕ) : ℝ) * ((((i : ℤ) + (j : ℤ) + 1 : ℤ) : ℝ) * π / 96))
        + cos (((k : ℕ) : ℝ) * ((((i : ℤ) - (j : ℤ) : ℤ) : ℝ) * π / 96))) := by
  have h1 : ((k : ℕ) : ℝ) * ((((i : ℤ) + (j : ℤ) + 1 : ℤ) : ℝ) * π / 96)
      = π * (2 * (i : ℝ) + 1) * (k : ℝ) / 192 + π * (2 * (j : ℝ) + 1) * (k : ℝ) / 192 := by push_cast; ring
  have h2 : ((k : ℕ) : ℝ) * ((((i : ℤ) - (j : ℤ) : ℤ) : ℝ) * π / 96)
      = π * (2 * (i : ℝ) + 1) * (k : ℝ) / 192 - π * (2 * (j : ℝ) + 1) * (k : ℝ) / 192 := by push_cast; ring
  rw [h1, h2, cos_add, cos_sub]
  unfold entry
  ring

/-- The inner product of two columns of the matrix: 194 of a column with itself, 2 of two different columns. -/
theorem gram (i j : Fin 96) : ∑ k, entry k i * entry k j = 192 * (if i = j then 1 else 0) + 2 := by
  simp only [entry_mul]
  rw [← Finset.mul_sum, Finset.sum_add_distrib, sum_cos _ (by omega)]
  by_cases h : i = j
  · subst h
    have ho : (-1 : ℝ) ^ ((i : ℤ) + (i : ℤ) + 1) = -1 := Odd.neg_one_zpow ⟨(i : ℤ), by ring⟩
    rw [ho]
    simp
    norm_num
  · rw [sum_cos _ (by have := fun e : (i : ℕ) = j => h (Fin.ext e); omega)]
    have he : (-1 : ℝ) ^ ((i : ℤ) + (j : ℤ) + 1) = -(-1 : ℝ) ^ ((i : ℤ) - (j : ℤ)) := by
      rw [show (i : ℤ) + (j : ℤ) + 1 = ((i : ℤ) - (j : ℤ)) + (2 * (j : ℤ) + 1) by ring,
        zpow_add₀ (by norm_num), Odd.neg_one_zpow ⟨(j : ℤ), rfl⟩]
      ring
    rw [he, if_neg h]
    ring

/-- The sum of the squares of a transformed vector. -/
theorem sum_coef_sq (x : Fin 96 → ℝ) :
    ∑ k, coef x k * coef x k = 192 * ∑ i, x i * x i + 2 * ((∑ i, x i) * ∑ i, x i) := by
  have h : ∀ k, coef x k * coef x k = ∑ i, ∑ j, x i * x j * (entry k i * entry k j) := by
    intro k
    unfold coef
    rw [Finset.sum_mul_sum]
    exact Finset.sum_congr rfl fun i _ => Finset.sum_congr rfl fun j _ => by ring
  simp only [h]
  rw [Finset.sum_comm]
  have h2 : ∀ i, ∑ k, ∑ j, x i * x j * (entry k i * entry k j) = 192 * (x i * x i) + 2 * (x i * ∑ j, x j) := by
    intro i
    rw [Finset.sum_comm]
    simp only [← Finset.mul_sum, gram]
    simp only [mul_add, Finset.sum_add_distrib, mul_ite, mul_one, mul_zero, Finset.sum_ite_eq, Finset.mem_univ,
      if_true]
    rw [← Finset.sum_mul, ← Finset.mul_sum]
    ring
  simp only [h2]
  rw [Finset.sum_add_distrib, ← Finset.mul_sum, ← Finset.mul_sum, ← Finset.sum_mul]

/-- The mean of a transformed vector is the vector's inner product with the mean row of the matrix. -/
theorem mean_coef (x : Fin 96 → ℝ) : (∑ k, coef x k) / 96 = ∑ i, x i * ((∑ k, entry k i) / 96) := by
  unfold coef
  rw [Finset.sum_comm, Finset.sum_div]
  exact Finset.sum_congr rfl fun i _ => by rw [← Finset.mul_sum]; ring

/-- The variance of a transformed vector, as the mean of its squared distances from its mean, equals twice the vector's
    sum of squares plus a forty-eighth of the square of its sum, less the square of the mean. -/
theorem variance_coef (x : Fin 96 → ℝ) (μ : ℝ) (hμ : μ = (∑ k, coef x k) / 96) :
    (∑ k, (coef x k - μ) * (coef x k - μ)) / 96
      = 2 * (∑ i, x i * x i) + 48⁻¹ * (∑ i, x i) * (∑ i, x i) - μ * μ := by
  have hs : ∑ k, coef x k = 96 * μ := by rw [hμ]; ring
  have h : ∀ k, (coef x k - μ) * (coef x k - μ) = coef x k * coef x k - 2 * μ * coef x k + μ * μ := fun k => by ring
  simp only [h]
  rw [Finset.sum_add_distrib, Finset.sum_sub_distrib, ← Finset.mul_sum, sum_coef_sq, hs]
  simp
  ring

end Cert.Dct

end

end
-- ==== Proof.Consts.lean ====
/- The float constants the two programs spell, as the extended reals their patterns denote. -/
module

public import Idealize.ShloMosaic.PureOps.Ideal

@[expose] public section

noncomputable section

namespace Cert.Consts

open Idealize.ShloMosaic

/-- `2.0` denotes the real 2. -/
theorem ofBits_two : Ideal.ofBits .f32 0x40000000#32 = ((2 : ℝ) : EReal) := by
  simp [Ideal.ofBits, Ideal.ieee, -EReal.coe_mul]; norm_num

/-- `-1.0` denotes the real -1. -/
theorem ofBits_neg_one : Ideal.ofBits .f32 0xBF800000#32 = ((-1 : ℝ) : EReal) := by
  simp [Ideal.ofBits, Ideal.ieee, -EReal.coe_mul]; norm_num

/-- `96.0`, the row length, denotes the real 96. -/
theorem ofBits_96 : Ideal.ofBits .f32 0x42C00000#32 = ((96 : ℝ) : EReal) := by
  simp [Ideal.ofBits, Ideal.ieee, -EReal.coe_mul]; norm_num

/-- `192.0`, twice the row length, denotes the real 192. -/
theorem ofBits_192 : Ideal.ofBits .f32 0x43400000#32 = ((192 : ℝ) : EReal) := by
  simp [Ideal.ofBits, Ideal.ieee, -EReal.coe_mul]; norm_num

/-- `1e-6`, which both layer norms add to a variance, denotes a positive real. -/
theorem ofBits_eps : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

/-- The arc cosine of -1, taken of the constant `-1.0`, is π. -/
theorem acos_neg_one : Ideal.acos (Ideal.ofBits .f32 0xBF800000#32) = (Real.pi : EReal) := by
  rw [ofBits_neg_one]
  show (if (-1 : ℝ) ≤ -1 ∧ (-1 : ℝ) ≤ 1 then (Real.arccos (-1) : EReal) else ⊥) = _
  rw [if_pos ⟨le_refl _, by norm_num⟩, Real.arccos_neg_one]

end Cert.Consts

end

end
-- ==== Proof.Row.lean ====
/- One row of the computation, on the extended reals: the layer norm, the two ways of computing the hidden layer's
   pre-activations (the reference's and the kernel's), what both programs do with them, and the theorem that the two
   ways agree on a row of real numbers. -/
module

public import proofs.«01_k».proof.Proof.Dct
public import proofs.«01_k».proof.Proof.Consts

@[expose] public section

noncomputable section

namespace Cert.Row

open Idealize.ShloMosaic

/-! ## The row's functions -/

/-- The mean of a row: its sum over 96.0. -/
def mean (y : Fin 96 → EReal) : EReal := Ideal.div (∑ k, y k) (Ideal.ofBits .f32 0x42C00000#32)

/-- The reciprocal root of a row's variance plus 1e-6, the variance being the mean of the squared distances from the
    mean. -/
def scale (y : Fin 96 → EReal) : EReal :=
  Ideal.rsqrt (Ideal.div (∑ k, (y k - mean y) * (y k - mean y)) (Ideal.ofBits .f32 0x42C00000#32)
    + Ideal.ofBits .f32 0x358637BD#32)

/-- The layer norm of a row `y` with scale `g` and shift `b`. -/
def norm (y g b : Fin 96 → EReal) (k : Fin 96) : EReal := (y k - mean y) * scale y * g k + b k

/-- The reference's pre-activations: transform the row, normalise it, multiply by the first weight matrix. -/
def refPre (D : Fin 96 → Fin 96 → EReal) (W : Fin 192 → Fin 96 → EReal) (g b x : Fin 96 → EReal) (h : Fin 192) : EReal :=
  ∑ k, norm (fun j => ∑ i, x i * D j i) g b k * W h k

/-- The kernel's mean of the transformed row: the row's inner product with a row `d`. -/
def kerMean (d x : Fin 96 → EReal) : EReal := ∑ i, x i * d i

/-- The kernel's reciprocal root: its variance is taken from the row's sum, its sum of squares and the mean above. -/
def kerScale (d x : Fin 96 → EReal) : EReal :=
  Ideal.rsqrt (Ideal.ofBits .f32 0x40000000#32 * (∑ i, x i * x i)
      + ((48⁻¹ : ℝ) : EReal) * (∑ i, x i) * (∑ i, x i) - kerMean d x * kerMean d x
    + Ideal.ofBits .f32 0x358637BD#32)

/-- The kernel's pre-activations: one product with a folded matrix `A`, then a correction for the mean along the row `u`,
    and a bias `e`. -/
def kerPre (A : Fin 96 → Fin 192 → EReal) (u e : Fin 192 → EReal) (d x : Fin 96 → EReal) (h : Fin 192) : EReal :=
  kerScale d x * (∑ i, x i * A i h) - kerScale d x * kerMean d x * u h + e h

/-- The kernel's folded matrix: the transform, the layer norm's scale and the first weights in one. -/
def foldA (D : Fin 96 → Fin 96 → EReal) (W : Fin 192 → Fin 96 → EReal) (g : Fin 96 → EReal) (i : Fin 96) (h : Fin 192) :
    EReal := ∑ k, D k i * g k * W h k

/-- The first weights applied to a row: to the layer norm's scale for the correction, to its shift for the bias. -/
def foldRow (W : Fin 192 → Fin 96 → EReal) (g : Fin 96 → EReal) (h : Fin 192) : EReal := ∑ k, g k * W h k

/-- The mean row of the transform's matrix. -/
def foldMean (D : Fin 96 → Fin 96 → EReal) (i : Fin 96) : EReal :=
  Ideal.div (∑ k, D k i) (Ideal.ofBits .f32 0x42C00000#32)

/-- What both programs make of the pre-activations: relu, the second weights, the logistic function, the layer norm, and
    the product with the row. -/
def gated (pre : Fin 192 → EReal) (V : Fin 96 → Fin 192 → EReal) (g b x : Fin 96 → EReal) (k : Fin 96) : EReal :=
  x k * norm (fun j => Ideal.logistic (∑ h, max (pre h) 0 * V j h)) g b k

/-! ## The two ways agree -/

/-- A finite sum of reals is the same sum taken on the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A product with a real number distributes over the sum of a real number and any extended real. -/
theorem add_mul_coe (a : ℝ) (b : EReal) (w : ℝ) : ((a : EReal) + b) * (w : EReal) = (a : EReal) * (w : EReal) + b * (w : EReal) := by
  induction b using EReal.rec with
  | coe r => rw [← EReal.coe_add, ← EReal.coe_mul, ← EReal.coe_mul, ← EReal.coe_mul, ← EReal.coe_add, add_mul]
  | bot =>
    rw [EReal.add_bot, ← EReal.coe_mul]
    rcases lt_trichotomy w 0 with h | h | h
    · rw [EReal.bot_mul_coe_of_neg h, EReal.coe_add_top]
    · subst h; simp
    · rw [EReal.bot_mul_coe_of_pos h, EReal.add_bot]
  | top =>
    rw [EReal.coe_add_top, ← EReal.coe_mul]
    rcases lt_trichotomy w 0 with h | h | h
    · rw [EReal.top_mul_coe_of_neg h, EReal.add_bot]
    · subst h; simp
    · rw [EReal.top_mul_coe_of_pos h, EReal.coe_add_top]

/-- The transform's matrix on the extended reals. -/
def dct (k i : Fin 96) : EReal := (Dct.entry k i : EReal)

/-- A position or a frequency, read off its 32-bit word, is the real number it stands for. -/
theorem toInt_ofNat (k : Fin 96) : (((BitVec.ofNat 32 (k : ℕ)).toInt : ℝ) : EReal) = ((k : ℝ) : EReal) := by
  have h : (BitVec.ofNat 32 (k : ℕ)).toInt = ((k : ℕ) : ℤ) := by
    rw [BitVec.toInt_eq_toNat_of_lt] <;> rw [BitVec.toNat_ofNat, Nat.mod_eq_of_lt] <;> omega
  rw [h]
  norm_cast

/-- An entry of the transform's matrix as both programs spell it: twice the cosine of π (the arc cosine of -1), times
    two `i` plus one, times `k`, over 192. -/
theorem dct_spelt (k i : Fin 96) :
    Ideal.ofBits .f32 0x40000000#32
        * Ideal.cos (Ideal.div
            (Ideal.acos (Ideal.ofBits .f32 0xBF800000#32)
                * (Ideal.ofBits .f32 0x40000000#32 * (((BitVec.ofNat 32 (i : ℕ)).toInt : ℝ) : EReal) + 1)
              * (((BitVec.ofNat 32 (k : ℕ)).toInt : ℝ) : EReal))
            (Ideal.ofBits .f32 0x43400000#32))
      = dct k i := by
  rw [Consts.acos_neg_one, Consts.ofBits_two, Consts.ofBits_192, toInt_ofNat, toInt_ofNat,
    Ideal.div_coe (by norm_num), ← EReal.coe_one]
  simp only [← EReal.coe_mul, ← EReal.coe_add]
  rw [Ideal.cos_coe, ← EReal.coe_mul]
  unfold dct Dct.entry
  congr 3
  ring

/-- The quotient of a real number by 96.0. -/
theorem div_96 (r : ℝ) : Ideal.div (r : EReal) (Ideal.ofBits .f32 0x42C00000#32) = ((r / 96 : ℝ) : EReal) := by
  rw [Consts.ofBits_96, Ideal.div_coe (by norm_num), ← EReal.coe_mul]
  congr 1; ring

/-- The mean of a row of reals. -/
theorem mean_coe (y : Fin 96 → ℝ) : mean (fun k => (y k : EReal)) = (((∑ k, y k) / 96 : ℝ) : EReal) := by
  unfold mean
  rw [← coe_sum, div_96]

/-- The variance of a row of reals. -/
theorem variance_coe (y : Fin 96 → ℝ) (μ : ℝ) :
    Ideal.div (∑ k, ((y k : EReal) - (μ : EReal)) * ((y k : EReal) - (μ : EReal))) (Ideal.ofBits .f32 0x42C00000#32)
      = (((∑ k, (y k - μ) * (y k - μ)) / 96 : ℝ) : EReal) := by
  simp only [← EReal.coe_sub, ← EReal.coe_mul]
  rw [← coe_sum, div_96]

/-- The transform of a row of reals. -/
theorem coef_coe (x : Fin 96 → ℝ) (k : Fin 96) : ∑ i, (x i : EReal) * dct k i = (Dct.coef x k : EReal) := by
  unfold dct Dct.coef
  simp only [← EReal.coe_mul]
  rw [← coe_sum]

/-- On a row of reals the kernel's mean is the mean of the transformed row. -/
theorem kerMean_coe (x : Fin 96 → ℝ) :
    kerMean (foldMean dct) (fun i => (x i : EReal)) = (((∑ k, Dct.coef x k) / 96 : ℝ) : EReal) := by
  unfold kerMean foldMean dct
  simp only [← coe_sum, div_96, ← EReal.coe_mul]
  rw [Dct.mean_coef]

/-- On a row of reals the kernel's reciprocal root is the layer norm's of the transformed row, -/
theorem kerScale_eq (x : Fin 96 → ℝ) :
    kerScale (foldMean dct) (fun i => (x i : EReal)) = scale (fun k => (Dct.coef x k : EReal)) := by
  unfold kerScale scale
  rw [mean_coe, variance_coe, kerMean_coe, Consts.ofBits_two, Dct.variance_coef x _ rfl]
  simp only [← EReal.coe_mul, ← coe_sum, ← EReal.coe_add, ← EReal.coe_sub]

/-- and it is a real number, the variance plus 1e-6 being positive. -/
theorem scale_real (y : Fin 96 → ℝ) : ∃ s : ℝ, scale (fun k => (y k : EReal)) = (s : EReal) := by
  obtain ⟨e, he, h⟩ := Consts.ofBits_eps
  unfold scale
  rw [mean_coe, variance_coe, h, ← EReal.coe_add, Ideal.rsqrt_coe]
  have hv : 0 ≤ (∑ k, (y k - (∑ k, y k) / 96) * (y k - (∑ k, y k) / 96)) / 96 :=
    div_nonneg (Finset.sum_nonneg fun k _ => mul_self_nonneg _) (by norm_num)
  rw [if_neg (by linarith), if_neg (by linarith)]
  exact ⟨_, rfl⟩

/-- On a row of reals, with real first weights and a real scale (the shift may be infinite), the kernel's pre-activations
    with the arrays folded as above are the reference's. -/
theorem kerPre_eq (x g : Fin 96 → ℝ) (b : Fin 96 → EReal) (w : Fin 192 → Fin 96 → ℝ) (h : Fin 192) :
    kerPre (foldA dct (fun h k => (w h k : EReal)) (fun k => (g k : EReal)))
        (foldRow (fun h k => (w h k : EReal)) (fun k => (g k : EReal))) (foldRow (fun h k => (w h k : EReal)) b)
        (foldMean dct) (fun i => (x i : EReal)) h
      = refPre dct (fun h k => (w h k : EReal)) (fun k => (g k : EReal)) b (fun i => (x i : EReal)) h := by
  obtain ⟨s, hs⟩ := scale_real (Dct.coef x)
  unfold kerPre foldA foldRow refPre norm
  simp only [coef_coe]
  rw [kerScale_eq, kerMean_coe, mean_coe, hs]
  unfold dct
  simp only [← EReal.coe_mul, ← coe_sum, ← EReal.coe_sub, add_mul_coe]
  rw [Finset.sum_add_distrib, ← coe_sum]
  congr 2
  generalize (∑ k, Dct.coef x k) / 96 = μ
  have h1 : ∀ i, x i * ∑ k, Dct.entry k i * g k * w h k = ∑ k, x i * Dct.entry k i * (g k * w h k) := fun i => by
    rw [Finset.mul_sum]; exact Finset.sum_congr rfl fun k _ => by ring
  simp only [h1]
  rw [Finset.sum_comm, Finset.mul_sum, Finset.mul_sum, ← Finset.sum_sub_distrib]
  refine Finset.sum_congr rfl fun k _ => ?_
  rw [← Finset.sum_mul]
  show s * (Dct.coef x k * (g k * w h k)) - _ = _
  ring

end Cert.Row

end

end
-- ==== Proof.Block.lean ====
/- What the kernel's body leaves in its output block, element by element: each row of the block is the row function `gated`
   of the kernel's pre-activations, of the row of the input block and of the arrays staged beside it. -/
module

public import proofs.«01_k».proof.Proof.Gen.KernelIdeal.Frame
public import proofs.«01_k».proof.Proof.Row
public import Idealize.ShloMosaic.Lib.Pointwise
public import Idealize.ShloMosaic.Lib.Pipeline.Value

@[expose] public section

set_option maxRecDepth 16384

noncomputable section

namespace Cert.KernelIdeal.Block

open Cert.KernelIdeal Cert.KernelIdeal.Gen Idealize.ShloMosaic Idealize.ShloMosaic.TcCoe

/-- The kernel's named constant denotes a forty-eighth. -/
theorem two_over_n :
    Named.named (F := Ideal) Cert.KernelIdeal.κ "two_over_n" (φ := .f32) 0x3CAAAAAB#32 = ((48⁻¹ : ℝ) : EReal) :=
  IdealRules.named_const.ideal_named_scalar _ _ _ _ rfl

/-- The pre-activations the body computes, from the blocks it loads. -/
theorem pay3_apply (x0 : Vec Ideal S2048x96 .f32) (x5 : Vec Ideal S1x96 .f32) (x1 : Vec Ideal S96x192 .bf16)
    (x2 x3 : Vec Ideal S1x192 .f32) (r : Fin 2048) (h : Fin 192) :
    k0_pay3 x0 x5 x1 x2 x3 (ix2 r h)
      = Cert.Row.kerPre (fun i h => x1 (ix2 i h)) (fun h => x2 (ix2 0 h)) (fun h => x3 (ix2 0 h))
          (fun i => x5 (ix2 0 i)) (fun i => x0 (ix2 r i)) h := by
  pointwise [k0_pay3, k0_pay2, Cert.Row.kerPre, Cert.Row.kerScale, Cert.Row.kerMean, two_over_n]

/-- What the body stores, from the pre-activations and the blocks it loads. -/
theorem pay1_apply (x0 : Vec Ideal S2048x96 .f32) (p : FVec Ideal S2048x192 .f32) (x4 : Vec Ideal S192x96 .bf16)
    (x6 x7 : Vec Ideal S1x96 .f32) (r : Fin 2048) (k : Fin 96) :
    k0_pay1 x0 p (Scalar.ofBits .f32 0x00000000#32) x4 x6 x7 (ix2 r k)
      = Cert.Row.gated (fun h => p (ix2 r h)) (fun j h => x4 (ix2 h j)) (fun k => x6 (ix2 0 k)) (fun k => x7 (ix2 0 k))
          (fun i => x0 (ix2 r i)) k := by
  pointwise [k0_pay1, Cert.Row.gated, Cert.Row.norm, Cert.Row.scale, Cert.Row.mean]

/-- The body's first value is the block of rows itself: it changes neither the shape nor an element. -/
theorem pay2_eq (x0 : Vec Ideal S2048x96 .f32) : k0_pay2 x0 = x0 := by
  funext j
  idx_vars j
  pointwise [k0_pay2]

/-- The offsets of the whole-block loads and of the store. -/
theorem zero_off : (![0, 0] : Fin 2 → Nat) = fun _ => 0 := funext fun a => by fin_cases a <;> rfl

/-- The output block at row `r`, lane `k`, of the input blocks. -/
theorem out_apply (x0 : Vec Ideal S2048x96 .f32) (x1 : Vec Ideal S96x192 .bf16) (x2 x3 : Vec Ideal S1x192 .f32)
    (x4 : Vec Ideal S192x96 .bf16) (x5 x6 x7 : Vec Ideal S1x96 .f32) (r : Fin 2048) (k : Fin 96) :
    out0_8 x0 x1 x2 x3 x4 x5 x6 x7 (ix2 r k)
      = Cert.Row.gated
          (Cert.Row.kerPre (fun i h => x1 (ix2 i h)) (fun h => x2 (ix2 0 h)) (fun h => x3 (ix2 0 h))
            (fun i => x5 (ix2 0 i)) (fun i => x0 (ix2 r i)))
          (fun j h => x4 (ix2 h j)) (fun k => x6 (ix2 0 k)) (fun k => x7 (ix2 0 k)) (fun i => x0 (ix2 r i)) k := by
  unfold out0_8
  rw [View.canon_unit_zero zero_off]
  rw [View.ld_unit_zero (S := S2048x96) zero_off, View.ld_unit_zero (S := S96x192) zero_off,
    View.ld_unit_zero (S := S1x192) zero_off, View.ld_unit_zero (S := S1x192) zero_off,
    View.ld_unit_zero (S := S192x96) zero_off, View.ld_unit_zero (S := S1x96) zero_off,
    View.ld_unit_zero (S := S1x96) zero_off, View.ld_unit_zero (S := S1x96) zero_off, pay2_eq, pay1_apply]
  simp only [pay3_apply]

end Cert.KernelIdeal.Block

end

end
-- ==== Proof.KernelHost.lean ====
/- What the kernel's host part leaves in the arrays that the launch stages, element by element, as a function of the
   program's arguments: the rows of `x`, the folded first weight matrix and its two row sums, the second weight matrix
   transposed, the column means of the transform, and the scale and shift as one-row arrays. -/
module

public import proofs.«01_k».proof.Proof.Gen.KernelIdeal.Frame
public import proofs.«01_k».proof.Proof.Row
public import Idealize.ShloMosaic.Lib.Pointwise
public import Idealize.ShloMosaic.Lib.StableHlo.Run

@[expose] public section

set_option maxRecDepth 16384

noncomputable section

namespace Cert.KernelIdeal.HostValue

open Cert.KernelIdeal Cert.KernelIdeal.Gen Idealize.ShloMosaic Idealize.ShloMosaic.TcCoe

variable (m : (ℓ : Loc nD τ sig) → Buf (Elt Ideal) ℓ)

/-- A buffer's contents when the launch begins are those after the one list of host operations before it. -/
theorem entry_after (c : Dev nD) (b : Ref sig .tc) :
    V m c b = StableHlo.after hostOps0 (fun b => m (c, b)) (Proc.devRef .tc b) := by
  show StableHlo.after (List.flatten [hostOps0]) _ _ = _
  rw [List.flatten_cons, List.flatten_nil, List.append_nil]

/-- The array of rows (window 0): row `r` is the row of the argument at the two leading coordinates that `r` encodes. -/
theorem x_apply (c : Dev nD) (r : Fin 524288) (k : Fin 96) :
    V m c main_call0_v0 (ix2 r k)
      = m ((c : Thread nD τ).loc main_arg0) (ix3 ⟨(r : ℕ) / 1024, by omega⟩ ⟨(r : ℕ) % 1024, by omega⟩ k) := by
  rw [entry_after]
  simp only [hostOps0, StableHlo.TRef.binary, StableHlo.TRef.nullary, StableHlo.TRef.unary, StableHlo.TRef.toBuf,
    StableHlo.TRef.ofBuf, cast_eq]
  after_results_simp
  pointwise

/-- The first weight matrix folded with the transform and the first scale (window 1). -/
theorem fold_apply (c : Dev nD) (i : Fin 96) (h : Fin 192) :
    V m c main_call0_v34 (ix2 i h)
      = Cert.Row.foldA Cert.Row.dct (fun h k => m ((c : Thread nD τ).loc main_arg1) (ix2 h k))
          (fun k => m ((c : Thread nD τ).loc main_arg3) (ix1 k)) i h := by
  rw [entry_after]
  simp only [hostOps0, StableHlo.TRef.binary, StableHlo.TRef.nullary, StableHlo.TRef.unary, StableHlo.TRef.toBuf,
    StableHlo.TRef.ofBuf, cast_eq]
  after_results_simp
  pointwise [Cert.Row.foldA]
  refine Finset.sum_congr (M := EReal) rfl fun x _ => ?_
  rw [← Cert.Row.dct_spelt x i]
  rfl

/-- The first weight matrix summed against the first scale (window 2). -/
theorem scale_row_apply (c : Dev nD) (h : Fin 192) :
    V m c main_call0_v27 (ix2 0 h)
      = Cert.Row.foldRow (fun h k => m ((c : Thread nD τ).loc main_arg1) (ix2 h k))
          (fun k => m ((c : Thread nD τ).loc main_arg3) (ix1 k)) h := by
  rw [entry_after]
  simp only [hostOps0, StableHlo.TRef.binary, StableHlo.TRef.nullary, StableHlo.TRef.unary, StableHlo.TRef.toBuf,
    StableHlo.TRef.ofBuf, cast_eq]
  after_results_simp
  pointwise [Cert.Row.foldRow]

/-- The first weight matrix summed against the shift (window 3). -/
theorem shift_row_apply (c : Dev nD) (h : Fin 192) :
    V m c main_call0_v29 (ix2 0 h)
      = Cert.Row.foldRow (fun h k => m ((c : Thread nD τ).loc main_arg1) (ix2 h k))
          (fun k => m ((c : Thread nD τ).loc main_arg4) (ix1 k)) h := by
  rw [entry_after]
  simp only [hostOps0, StableHlo.TRef.binary, StableHlo.TRef.nullary, StableHlo.TRef.unary, StableHlo.TRef.toBuf,
    StableHlo.TRef.ofBuf, cast_eq]
  after_results_simp
  pointwise [Cert.Row.foldRow]

/-- The second weight matrix, transposed (window 4). -/
theorem second_apply (c : Dev nD) (h : Fin 192) (j : Fin 96) :
    V m c main_call0_v36 (ix2 h j) = m ((c : Thread nD τ).loc main_arg2) (ix2 j h) := by
  rw [entry_after]
  simp only [hostOps0, StableHlo.TRef.binary, StableHlo.TRef.nullary, StableHlo.TRef.unary, StableHlo.TRef.toBuf,
    StableHlo.TRef.ofBuf, cast_eq]
  after_results_simp
  pointwise

/-- The mean of each column of the transform (window 5). -/
theorem mean_apply (c : Dev nD) (k : Fin 96) :
    V m c main_call0_v33 (ix2 0 k) = Cert.Row.foldMean Cert.Row.dct k := by
  rw [entry_after]
  simp only [hostOps0, StableHlo.TRef.binary, StableHlo.TRef.nullary, StableHlo.TRef.unary, StableHlo.TRef.toBuf,
    StableHlo.TRef.ofBuf, cast_eq]
  after_results_simp
  pointwise [Cert.Row.foldMean]
  refine congrArg (fun s => Ideal.div s _) (Finset.sum_congr rfl fun x _ => ?_)
  rw [← Cert.Row.dct_spelt x k]
  rfl

/-- The scale of the layer norm (window 6). -/
theorem gamma_apply (c : Dev nD) (k : Fin 96) :
    V m c main_call0_v37 (ix2 0 k) = m ((c : Thread nD τ).loc main_arg3) (ix1 k) := by
  rw [entry_after]
  simp only [hostOps0, StableHlo.TRef.binary, StableHlo.TRef.nullary, StableHlo.TRef.unary, StableHlo.TRef.toBuf,
    StableHlo.TRef.ofBuf, cast_eq]
  after_results_simp
  pointwise

/-- The shift of the layer norm (window 7). -/
theorem beta_apply (c : Dev nD) (k : Fin 96) :
    V m c main_call0_v38 (ix2 0 k) = m ((c : Thread nD τ).loc main_arg4) (ix1 k) := by
  rw [entry_after]
  simp only [hostOps0, StableHlo.TRef.binary, StableHlo.TRef.nullary, StableHlo.TRef.unary, StableHlo.TRef.toBuf,
    StableHlo.TRef.ofBuf, cast_eq]
  after_results_simp
  pointwise

end Cert.KernelIdeal.HostValue

end

end
-- ==== Proof.KernelValue.lean ====
/- What the kernel's run leaves in its result array: at every index the row function `gated` of the kernel's
   pre-activations, of the row of `x` at that index and of the host's folded arrays. The launch's grid points each write
   2048 rows, and together they write every row. -/
module

public import proofs.«01_k».proof.Proof.Block
public import proofs.«01_k».proof.Proof.KernelHost
public import Idealize.ShloMosaic.Lib.Pipeline.ValueKit

@[expose] public section

set_option maxRecDepth 16384

noncomputable section

namespace Cert.KernelIdeal.RunValue

open Cert.KernelIdeal Cert.KernelIdeal.Gen Cert.KernelIdeal.HostValue Idealize.ShloMosaic Idealize.ShloMosaic.TcCoe
open Idealize.SL.Sem

variable (m : (ℓ : Loc nD τ sig) → Buf (Elt Ideal) ℓ) (ρ : Dev nD → PrngReg)

/-! ## The blocks of the staged arrays, at an index -/

/-- Along its rows, the block of window 0 at a grid point is the one numbered by the point; -/
theorem idx_in : ∀ t : Fin cfg0.N, (cfg0.win 0).index t = ![t.val, 0] :=
  (by decide +kernel : ∀ t : Fin grid0.N, win0_0.index t = ![t.val, 0])

/-- so is the block of the output window. -/
theorem idx_out : ∀ t : Fin cfg0.N, (cfg0.win 8).index t = ![t.val, 0] :=
  (by decide +kernel : ∀ t : Fin grid0.N, win0_8.index t = ![t.val, 0])

/-- Window 0's block at a point holds 2048 consecutive rows of the array of rows. -/
theorem rows_blk (c : Dev nD) (t : Fin cfg0.N) (r : Fin 2048) (k : Fin 96) (R : Fin 524288) (hR : (R : ℕ) = t.val * 2048 + r) :
    iblk m c 0 t (ix2 r k) = V m c main_call0_v0 (ix2 R k) := by
  blk_ext [iblk, idx_in t]

/-- The other seven input windows hold their whole array at every point. -/
theorem idx_whole : ∀ t : Fin cfg0.N, (cfg0.win 1).index t = ![0, 0] ∧ (cfg0.win 2).index t = ![0, 0]
    ∧ (cfg0.win 3).index t = ![0, 0] ∧ (cfg0.win 4).index t = ![0, 0] ∧ (cfg0.win 5).index t = ![0, 0]
    ∧ (cfg0.win 6).index t = ![0, 0] ∧ (cfg0.win 7).index t = ![0, 0] :=
  (by decide +kernel : ∀ t : Fin grid0.N, win0_1.index t = ![0, 0] ∧ win0_2.index t = ![0, 0]
    ∧ win0_3.index t = ![0, 0] ∧ win0_4.index t = ![0, 0] ∧ win0_5.index t = ![0, 0]
    ∧ win0_6.index t = ![0, 0] ∧ win0_7.index t = ![0, 0])

/-- Window 1: the folded weight matrix. -/
theorem blk1 (c : Dev nD) (t : Fin cfg0.N) (i : Fin 96) (j : Fin 192) :
    iblk m c 1 t (ix2 i j) = V m c main_call0_v34 (ix2 i j) := by
  blk_ext [iblk, (idx_whole t).1]

/-- Window 2: the row of sums against the scale. -/
theorem blk2 (c : Dev nD) (t : Fin cfg0.N) (i : Fin 1) (j : Fin 192) :
    iblk m c 2 t (ix2 i j) = V m c main_call0_v27 (ix2 i j) := by
  blk_ext [iblk, (idx_whole t).2.1]

/-- Window 3: the row of sums against the shift. -/
theorem blk3 (c : Dev nD) (t : Fin cfg0.N) (i : Fin 1) (j : Fin 192) :
    iblk m c 3 t (ix2 i j) = V m c main_call0_v29 (ix2 i j) := by
  blk_ext [iblk, (idx_whole t).2.2.1]

/-- Window 4: the second weight matrix. -/
theorem blk4 (c : Dev nD) (t : Fin cfg0.N) (i : Fin 192) (j : Fin 96) :
    iblk m c 4 t (ix2 i j) = V m c main_call0_v36 (ix2 i j) := by
  blk_ext [iblk, (idx_whole t).2.2.2.1]

/-- Window 5: the row of column means. -/
theorem blk5 (c : Dev nD) (t : Fin cfg0.N) (i : Fin 1) (j : Fin 96) :
    iblk m c 5 t (ix2 i j) = V m c main_call0_v33 (ix2 i j) := by
  blk_ext [iblk, (idx_whole t).2.2.2.2.1]

/-- Window 6: the scale. -/
theorem blk6 (c : Dev nD) (t : Fin cfg0.N) (i : Fin 1) (j : Fin 96) :
    iblk m c 6 t (ix2 i j) = V m c main_call0_v37 (ix2 i j) := by
  blk_ext [iblk, (idx_whole t).2.2.2.2.2.1]

/-- Window 7: the shift. -/
theorem blk7 (c : Dev nD) (t : Fin cfg0.N) (i : Fin 1) (j : Fin 96) :
    iblk m c 7 t (ix2 i j) = V m c main_call0_v38 (ix2 i j) := by
  blk_ext [iblk, (idx_whole t).2.2.2.2.2.2]

/-! ## The result array -/

/-- The result as the kernel computes it, at row `a`, `b` and lane `k`. -/
def out (c : Dev nD) (a : Fin 512) (b : Fin 1024) (k : Fin 96) : EReal :=
  Cert.Row.gated
    (Cert.Row.kerPre
      (Cert.Row.foldA Cert.Row.dct (fun h k => m ((c : Thread nD τ).loc main_arg1) (ix2 h k))
        (fun k => m ((c : Thread nD τ).loc main_arg3) (ix1 k)))
      (Cert.Row.foldRow (fun h k => m ((c : Thread nD τ).loc main_arg1) (ix2 h k))
        (fun k => m ((c : Thread nD τ).loc main_arg3) (ix1 k)))
      (Cert.Row.foldRow (fun h k => m ((c : Thread nD τ).loc main_arg1) (ix2 h k))
        (fun k => m ((c : Thread nD τ).loc main_arg4) (ix1 k)))
      (Cert.Row.foldMean Cert.Row.dct)
      (fun i => m ((c : Thread nD τ).loc main_arg0) (ix3 a b i)))
    (fun j h => m ((c : Thread nD τ).loc main_arg2) (ix2 j h))
    (fun k => m ((c : Thread nD τ).loc main_arg3) (ix1 k)) (fun k => m ((c : Thread nD τ).loc main_arg4) (ix1 k))
    (fun i => m ((c : Thread nD τ).loc main_arg0) (ix3 a b i)) k

/-- The same over the rows numbered in one axis: the array the launch writes. -/
def rows (c : Dev nD) : FVec Ideal S524288x96 .f32 := fun i =>
  out m c ⟨(i 0 : ℕ) / 1024, Nat.div_lt_of_lt_mul (i 0).isLt⟩ ⟨(i 0 : ℕ) % 1024, Nat.mod_lt _ (by norm_num)⟩ (i 1)

/-- What a grid point leaves in the output's block, at an index: the result at the row the block's row is. -/
theorem point_apply (c : Dev nD) (t : Fin cfg0.N) (r : Fin 2048) (k : Fin 96) (R : Fin 524288)
    (hR : (R : ℕ) = t.val * 2048 + r) :
    out0_8 (iblk m c 0 t) (iblk m c 1 t) (iblk m c 2 t) (iblk m c 3 t) (iblk m c 4 t) (iblk m c 5 t) (iblk m c 6 t)
      (iblk m c 7 t) (ix2 r k) = rows m c (ix2 R k) := by
  rw [Cert.KernelIdeal.Block.out_apply]
  have e0 : (fun i => iblk m c 0 t (ix2 r i)) = fun i => m ((c : Thread nD τ).loc main_arg0)
      (ix3 ⟨(R : ℕ) / 1024, by omega⟩ ⟨(R : ℕ) % 1024, by omega⟩ i) :=
    funext fun i => (rows_blk m c t r i R hR).trans (x_apply m c R i)
  have e1 : (fun i h => iblk m c 1 t (ix2 i h)) = _ :=
    funext fun i => funext fun h => (blk1 m c t i h).trans (fold_apply m c i h)
  have e2 : (fun h => iblk m c 2 t (ix2 0 h)) = _ := funext fun h => (blk2 m c t 0 h).trans (scale_row_apply m c h)
  have e3 : (fun h => iblk m c 3 t (ix2 0 h)) = _ := funext fun h => (blk3 m c t 0 h).trans (shift_row_apply m c h)
  have e4 : (fun j h => iblk m c 4 t (ix2 h j)) = _ :=
    funext fun j => funext fun h => (blk4 m c t h j).trans (second_apply m c h j)
  have e5 : (fun k => iblk m c 5 t (ix2 0 k)) = _ := funext fun k => (blk5 m c t 0 k).trans (mean_apply m c k)
  have e6 : (fun k => iblk m c 6 t (ix2 0 k)) = _ := funext fun k => (blk6 m c t 0 k).trans (gamma_apply m c k)
  have e7 : (fun k => iblk m c 7 t (ix2 0 k)) = _ := funext fun k => (blk7 m c t 0 k).trans (beta_apply m c k)
  rw [e0, e1, e2, e3, e4, e5, e6, e7]
  rfl

/-- After the launch the output's array holds those rows. -/
theorem final (c : Dev nD) : (dats m 0 c).arrAt 8 cfg0.N = rows m c := by
  refine (dats m 0 c).arrAt_eq_of_covers 8 _ (by decide +kernel) fun t hf y => ?_
  have ht : t.val < 256 := t.isLt
  idx_vars y
  blk_simp
  rw [after0_8]
  refine (point_apply m c t y0 y1 ⟨t.val * 2048 + y0, by omega⟩ rfl).trans (congrArg (rows m c) ?_)
  blk_ext [idx_out t]

/-- The reshaped array at an index. -/
theorem tail_apply (c : Dev nD) (a : Fin 512) (b : Fin 1024) (k : Fin 96) :
    shapeCast S512x1024x96 (rows m c) shapeCasts_S524288x96_S512x1024x96 (ix3 a b k) = out m c a b k := by
  pointwise [rows]
  have ha : (⟨((a : ℕ) * 1024 + b) / 1024, by omega⟩ : Fin 512) = a := Fin.ext (by dsimp only; omega)
  have hb : (⟨((a : ℕ) * 1024 + b) % 1024, by omega⟩ : Fin 1024) = b := Fin.ext (by dsimp only; omega)
  rw [ha, hb]

/-- The kernel's run: the result at every index, the arguments unchanged. -/
theorem run : θ_run defs (onTc (τ := τ) (main (F := Ideal))) ⟨m, fun _ => 0, ρ⟩ fun r => ∀ c : Dev nD,
      r.2.mem ((c : Thread nD τ).loc main_v0)
        = shapeCast S512x1024x96 (rows m c) shapeCasts_S524288x96_S512x1024x96
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ⟨?_,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)
  refine ((h c).2 main_v0 (Pipeline.mem_restRefs_of main_v0 (by decide) (by decide))).trans ?_
  unfold Pipeline.afterTail₀
  show StableHlo.after (List.flatten [hostOps1]) _ _ = _
  rw [List.flatten_cons, List.flatten_nil, List.append_nil]
  simp only [hostOps1, StableHlo.TRef.reshape, StableHlo.TRef.toBuf, StableHlo.TRef.ofBuf, cast_eq]
  after_results_simp
  exact congrArg (fun A => shapeCast S512x1024x96 A shapeCasts_S524288x96_S512x1024x96)
    ((Pipeline.withArrays_arr spec0 (by decide) c (V0 m c) _ 8).trans (final m c))

end Cert.KernelIdeal.RunValue

end

end
-- ==== Proof.RefValue.lean ====
/- What the reference's result holds, element by element: its composed term is staged here into the transform's matrix, the
   layer norm and the two products, and each stage is read at an index as one of the row's functions. -/
module

public import proofs.«01_k».proof.Proof.Gen.ReferenceIdeal.Run
public import proofs.«01_k».proof.Proof.Row
public import Idealize.ShloMosaic.Lib.Pointwise

@[expose] public section

set_option maxRecDepth 16384

noncomputable section

namespace Cert.ReferenceIdeal.RefValue

open Cert.ReferenceIdeal Cert.ReferenceIdeal.Gen Cert.ReferenceIdeal.Value Idealize.ShloMosaic Idealize.ShloMosaic.TcCoe

/-- The transform's matrix, as the reference builds it. -/
def dctMat : FVec Ideal S96x96 .f32 :=
  mulf (broadcastInDim S96x96 ![] bcast_S_S96x96 (constant S_ .f32 0x40000000#32))
    (Host.cos (Host.divf
      (mulf
        (broadcastInDim S96x96 ![0, 1] bcast_S1x96_S96x96_0_1
          (mulf (broadcastInDim S1x96 ![] bcast_S_S1x96 (Host.acos (constant S_ .f32 0xBF800000#32)))
            (addf
              (mulf (broadcastInDim S1x96 ![] bcast_S_S1x96 (constant S_ .f32 0x40000000#32))
                (broadcastInDim S1x96 ![1] bcast_S96_S1x96_1 (sitofp .f32 (iotaInDim S96 32 0))))
              (broadcastInDim S1x96 ![] bcast_S_S1x96 (constant S_ .f32 0x3F800000#32)))))
        (broadcastInDim S96x96 ![0, 1] bcast_S96x1_S96x96_0_1
          (broadcastInDim S96x1 ![0] bcast_S96_S96x1_0 (sitofp .f32 (iotaInDim S96 32 0)))))
      (broadcastInDim S96x96 ![] bcast_S_S96x96 (constant S_ .f32 0x43400000#32))))

/-- Its entry in row `k`, column `i`. -/
theorem dctMat_apply (k i : Fin 96) : dctMat (ix2 k i) = Cert.Row.dct k i := by
  pointwise [dctMat]
  exact Cert.Row.dct_spelt k i

/-- The mean of each row. -/
def meanOf (y : FVec Ideal S512x1024x96 .f32) : FVec Ideal S512x1024x1 .f32 :=
  Host.divf (broadcastInDim S512x1024x1 ![0, 1] bcast_S512x1024_S512x1024x1_0_1
      (Host.reduceAdd y (constant S_ .f32 0x00000000#32) reducesTo_S512x1024x96_S512x1024_d2 h_S_))
    (broadcastInDim S512x1024x1 ![] bcast_S_S512x1024x1 (constant S_ .f32 0x42C00000#32))

/-- Each row's mean is the row function's. -/
theorem meanOf_apply (y : FVec Ideal S512x1024x96 .f32) (a : Fin 512) (b : Fin 1024) :
    meanOf y (ix3 a b 0) = Cert.Row.mean (fun k => y (ix3 a b k)) := by
  pointwise [meanOf, Cert.Row.mean]

/-- Each row less its mean. -/
def centred (y : FVec Ideal S512x1024x96 .f32) : FVec Ideal S512x1024x96 .f32 :=
  subf y (broadcastInDim S512x1024x96 ![0, 1, 2] bcast_S512x1024x1_S512x1024x96_0_1_2 (meanOf y))

/-- Its element is the row's element less the row function's mean. -/
theorem centred_apply (y : FVec Ideal S512x1024x96 .f32) (a : Fin 512) (b : Fin 1024) (k : Fin 96) :
    centred y (ix3 a b k) = y (ix3 a b k) - Cert.Row.mean (fun k => y (ix3 a b k)) := by
  pointwise [centred, meanOf_apply]

/-- The reciprocal root of each row's variance plus 1e-6. -/
def scaleOf (y : FVec Ideal S512x1024x96 .f32) : FVec Ideal S512x1024x1 .f32 :=
  Host.rsqrt (addf
    (Host.divf (broadcastInDim S512x1024x1 ![0, 1] bcast_S512x1024_S512x1024x1_0_1
        (Host.reduceAdd (mulf (centred y) (centred y)) (constant S_ .f32 0x00000000#32)
          reducesTo_S512x1024x96_S512x1024_d2 h_S_))
      (broadcastInDim S512x1024x1 ![] bcast_S_S512x1024x1 (constant S_ .f32 0x42C00000#32)))
    (broadcastInDim S512x1024x1 ![] bcast_S_S512x1024x1 (constant S_ .f32 0x358637BD#32)))

/-- It is the row function's scale of the row. -/
theorem scaleOf_apply (y : FVec Ideal S512x1024x96 .f32) (a : Fin 512) (b : Fin 1024) :
    scaleOf y (ix3 a b 0) = Cert.Row.scale (fun k => y (ix3 a b k)) := by
  pointwise [scaleOf, Cert.Row.scale, centred_apply]

/-- The layer norm of each row, with scale `g` and shift `s`. -/
def lnorm (y : FVec Ideal S512x1024x96 .f32) (g s : FVec Ideal S96 .f32) : FVec Ideal S512x1024x96 .f32 :=
  addf
    (mulf
      (mulf (centred y) (broadcastInDim S512x1024x96 ![0, 1, 2] bcast_S512x1024x1_S512x1024x96_0_1_2 (scaleOf y)))
      (broadcastInDim S512x1024x96 ![0, 1, 2] bcast_S1x1x96_S512x1024x96_0_1_2
        (broadcastInDim S1x1x96 ![2] bcast_S96_S1x1x96_2 g)))
    (broadcastInDim S512x1024x96 ![0, 1, 2] bcast_S1x1x96_S512x1024x96_0_1_2
      (broadcastInDim S1x1x96 ![2] bcast_S96_S1x1x96_2 s))

/-- An element of it is the row function of its row. -/
theorem lnorm_apply (y : FVec Ideal S512x1024x96 .f32) (g s : FVec Ideal S96 .f32) (a : Fin 512) (b : Fin 1024) (k : Fin 96) :
    lnorm y g s (ix3 a b k)
      = Cert.Row.norm (fun k => y (ix3 a b k)) (fun k => g (ix1 k)) (fun k => s (ix1 k)) k := by
  pointwise [lnorm, Cert.Row.norm, centred_apply, scaleOf_apply]

/-- The hidden layer before its relu: the layer norm of the transformed rows, times the first weights. -/
def preOf (x : FVec Ideal S512x1024x96 .f32) (W : FVec Ideal S192x96 .f32) (g s : FVec Ideal S96 .f32) :
    FVec Ideal S512x1024x192 .f32 :=
  Host.dotGeneral dot_S512x1024x96_S192x96_S512x1024x192_2_1_01_0_n_n none
    (lnorm (Host.dotGeneral dot_S512x1024x96_S96x96_S512x1024x96_2_1_01_0_n_n none x dctMat) g s) W

/-- An element of it is the reference's pre-activation of its row. -/
theorem preOf_apply (x : FVec Ideal S512x1024x96 .f32) (W : FVec Ideal S192x96 .f32) (g s : FVec Ideal S96 .f32)
    (a : Fin 512) (b : Fin 1024) (h : Fin 192) :
    preOf x W g s (ix3 a b h)
      = Cert.Row.refPre Cert.Row.dct (fun h k => W (ix2 h k)) (fun k => g (ix1 k)) (fun k => s (ix1 k))
          (fun i => x (ix3 a b i)) h := by
  pointwise [preOf, Cert.Row.refPre, lnorm_apply, dctMat_apply]

/-- The logistic function of the second product, as the reference spells it: one over one plus the exponential of the
    negated argument. -/
def gateOf (p : FVec Ideal S512x1024x192 .f32) (V : FVec Ideal S96x192 .f32) : FVec Ideal S512x1024x96 .f32 :=
  Host.divf (broadcastInDim S512x1024x96 ![] bcast_S_S512x1024x96 (constant S_ .f32 0x3F800000#32))
    (addf (broadcastInDim S512x1024x96 ![] bcast_S_S512x1024x96 (constant S_ .f32 0x3F800000#32))
      (Host.exp (Host.negf
        (Host.dotGeneral dot_S512x1024x192_S96x192_S512x1024x96_2_1_01_0_n_n none
          (maximumf p (broadcastInDim S512x1024x192 ![] bcast_S_S512x1024x192 (constant S_ .f32 0x00000000#32))) V))))

/-- An element of the gate: the logistic of the relu of the hidden row, times the second weights. -/
theorem gateOf_apply (p : FVec Ideal S512x1024x192 .f32) (V : FVec Ideal S96x192 .f32)
    (a : Fin 512) (b : Fin 1024) (j : Fin 96) :
    gateOf p V (ix3 a b j) = Ideal.logistic (∑ h, max (p (ix3 a b h)) 0 * V (ix2 j h)) := by
  pointwise [gateOf, Ideal.logistic]

variable (m : (ℓ : Loc nD τ sig) → Buf (Elt Ideal) ℓ) (c : Dev nD)

set_option maxHeartbeats 4000000 in
/-- The reference's composed term is the stages above, one after the other. -/
theorem res_eq :
    res_out0 m c
      = mulf (m ((c.tc : Thread nD τ).loc main_arg0))
          (lnorm
            (gateOf
              (preOf (m ((c.tc : Thread nD τ).loc main_arg0)) (m ((c.tc : Thread nD τ).loc main_arg1))
                (m ((c.tc : Thread nD τ).loc main_arg3)) (m ((c.tc : Thread nD τ).loc main_arg4)))
              (m ((c.tc : Thread nD τ).loc main_arg2)))
            (m ((c.tc : Thread nD τ).loc main_arg3)) (m ((c.tc : Thread nD τ).loc main_arg4))) := by
  unfold res_out0 res_main_v77
  rfl

/-- An element of the reference's result: the row function `gated` of the reference's pre-activations of its row. -/
theorem res_apply (a : Fin 512) (b : Fin 1024) (k : Fin 96) :
    res_out0 m c (ix3 a b k)
      = Cert.Row.gated
          (Cert.Row.refPre Cert.Row.dct (fun h k => m ((c.tc : Thread nD τ).loc main_arg1) (ix2 h k))
            (fun k => m ((c.tc : Thread nD τ).loc main_arg3) (ix1 k)) (fun k => m ((c.tc : Thread nD τ).loc main_arg4) (ix1 k))
            (fun i => m ((c.tc : Thread nD τ).loc main_arg0) (ix3 a b i)))
          (fun j h => m ((c.tc : Thread nD τ).loc main_arg2) (ix2 j h))
          (fun k => m ((c.tc : Thread nD τ).loc main_arg3) (ix1 k)) (fun k => m ((c.tc : Thread nD τ).loc main_arg4) (ix1 k))
          (fun i => m ((c.tc : Thread nD τ).loc main_arg0) (ix3 a b i)) k := by
  rw [res_eq]
  unfold Cert.Row.gated
  rw [mulf_apply, lnorm_apply]
  simp only [gateOf_apply, preOf_apply]
  rfl

end Cert.ReferenceIdeal.RefValue

end

end
-- ==== Proof.Equal.lean ====
/- The kernel's result and the reference's are the same array, where `x`, the first weight matrix and the layer norm's
   scale hold real numbers: both are the row function `gated` of their pre-activations, and the pre-activations agree. -/
module

public import proofs.«01_k».proof.Proof.KernelValue
public import proofs.«01_k».proof.Proof.RefValue

@[expose] public section

set_option maxRecDepth 16384

noncomputable section

namespace Cert.Equal

open Idealize.ShloMosaic Idealize.ShloMosaic.TcCoe

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The kernel's pre-activations are the reference's, for any rows and weights whose entries are real numbers. -/
theorem kerPre_eq_of_real (x g b : Fin 96 → EReal) (w : Fin 192 → Fin 96 → EReal)
    (hx : ∀ i, ∃ r : ℝ, x i = (r : EReal)) (hw : ∀ h k, ∃ r : ℝ, w h k = (r : EReal))
    (hg : ∀ k, ∃ r : ℝ, g k = (r : EReal)) :
    Cert.Row.kerPre (Cert.Row.foldA Cert.Row.dct w g) (Cert.Row.foldRow w g) (Cert.Row.foldRow w b)
        (Cert.Row.foldMean Cert.Row.dct) x
      = Cert.Row.refPre Cert.Row.dct w g b x := by
  choose x' hx using hx
  choose w' hw using hw
  choose g' hg using hg
  obtain rfl : x = fun i => (x' i : EReal) := funext hx
  obtain rfl : w = fun h k => (w' h k : EReal) := funext fun h => funext fun k => hw h k
  obtain rfl : g = fun k => (g' k : EReal) := funext hg
  exact funext fun h => Cert.Row.kerPre_eq x' g' b w' h

/-- The reference's result array, from memory that agrees with the kernel's on the arguments, is the kernel's. -/
theorem result_eq (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (hx : ∀ i, ∃ r : ℝ,
      m ((c.tc : Thread Cert.KernelIdeal.nD Cert.KernelIdeal.τ).loc Cert.KernelIdeal.main_arg0) i = (r : EReal))
    (hw : ∀ i, ∃ r : ℝ,
      m ((c.tc : Thread Cert.KernelIdeal.nD Cert.KernelIdeal.τ).loc Cert.KernelIdeal.main_arg1) i = (r : EReal))
    (hg : ∀ i, ∃ r : ℝ,
      m ((c.tc : Thread Cert.KernelIdeal.nD Cert.KernelIdeal.τ).loc Cert.KernelIdeal.main_arg3) i = (r : EReal)) :
    Cert.ReferenceIdeal.Value.res_main_v77 m' c
      = shapeCast Cert.KernelIdeal.S512x1024x96 (Cert.KernelIdeal.RunValue.rows m c)
          Cert.KernelIdeal.Gen.shapeCasts_S524288x96_S512x1024x96 := by
  funext j
  obtain ⟨a, b, k, rfl⟩ : ∃ a b k, j = ix3 a b k := ⟨j 0, j 1, j 2, eq_ix3 j⟩
  rw [Cert.KernelIdeal.RunValue.tail_apply]
  refine (Cert.ReferenceIdeal.RefValue.res_apply m' c a b k).trans ?_
  rw [h0, h1, h2, h3, h4]
  unfold Cert.KernelIdeal.RunValue.out
  rw [kerPre_eq_of_real _ _ _ _ (fun i => hx _) (fun h k => hw _) (fun k => hg _)]

end Cert.Equal

end

end
-- ==== Proof.Finite.lean ====
/- What the precondition says: every entry of `x`, of the first weight matrix and of the layer norm's scale is a real
   number, neither infinity. -/
module

public import proofs.«01_k».proof.Proof.Gen.Pre_finite
public import Idealize.ShloMosaic.Lib.ReduceAll
public import Idealize.ShloMosaic.Lib.WordArith
public import Idealize.ShloMosaic.Lib.Pointwise

@[expose] public section

set_option maxRecDepth 16384

noncomputable section

namespace Cert.Finite

open Cert.Pre_finite Idealize.ShloMosaic

/-- A value whose size is less than the infinity that the word 0x7F800000 denotes is a real number. -/
theorem real_of_lt (y : EReal) (h : Ideal.cmp .olt (max y (-y)) (Ideal.ofBits .f32 0x7F800000#32) = 1#1) :
    ∃ r : ℝ, y = r := by
  have htop : Ideal.ofBits .f32 0x7F800000#32 = ⊤ := by simp [Ideal.ofBits, Ideal.ieee]
  rw [htop] at h
  have hlt : max y (-y) < ⊤ := by
    by_contra hn
    simp [Ideal.cmp, hn] at h
  induction y using EReal.rec with
  | bot => simp at hlt
  | coe r => exact ⟨r, rfl⟩
  | top => simp at hlt

/-- A conjunction of two bits that is 1 has both of them 1. -/
theorem andi_eq_one (p q : BitVec 1) (h : IntOp.andi p q = 1#1) : p = 1#1 ∧ q = 1#1 := by
  revert p q
  decide

/-- The precondition, read at the three arrays: every entry of each is a real number. -/
theorem real_of_fn (x : FVec Ideal S512x1024x96 .f32) (w : FVec Ideal S192x96 .f32) (v : FVec Ideal S96x192 .f32)
    (g b : FVec Ideal S96 .f32) (h : fn x w v g b = fun _ => 1#1) :
    (∀ i, ∃ r : ℝ, x i = (r : EReal)) ∧ (∀ i, ∃ r : ℝ, w i = (r : EReal)) ∧ (∀ i, ∃ r : ℝ, g i = (r : EReal)) := by
  have h0 := congrFun h (fun a => a.elim0)
  dsimp only [fn] at h0
  simp only [andi] at h0
  haveI : Subsingleton S_.Idx := ⟨fun i j => funext fun a => a.elim0⟩
  obtain ⟨hxw, hg⟩ := andi_eq_one _ _ h0
  obtain ⟨hx, hw⟩ := andi_eq_one _ _ hxw
  exact ⟨fun i => real_of_lt _ (Host.reduce_andi_all _ _ _ _ _ hx i),
    fun i => real_of_lt _ (Host.reduce_andi_all _ _ _ _ _ hw i),
    fun i => real_of_lt _ (Host.reduce_andi_all _ _ _ _ _ hg i)⟩

end Cert.Finite

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import Idealize.ShloMosaic.Adequacy
public import Idealize.ShloMosaic.Init
public import Idealize.ShloMosaic.Lib.Quiescent
public import proofs.«01_k».proof.Proof.Equal
public import proofs.«01_k».proof.Proof.Finite

@[expose] public section

noncomputable section

namespace Cert.Proof

open Idealize.ShloMosaic Idealize.SL.Sem

/-- The reference runs, leaves its arguments unchanged, and ends with every semaphore counter at zero. -/
theorem reference_frame : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- From memories that agree on the arguments, where `x`, the first weight matrix and the scale hold real numbers, the
    kernel and the reference end with the same result, as extended reals element by element. -/
theorem same_result : Cert.algebraic_KernelIdeal_ReferenceIdeal_pre_finite := by
  intro m g m' g' hpre hagree
  refine ⟨fun c => shapeCast Cert.KernelIdeal.S512x1024x96 (Cert.KernelIdeal.RunValue.rows m c)
      Cert.KernelIdeal.Gen.shapeCasts_S524288x96_S512x1024x96, Cert.KernelIdeal.RunValue.run m g,
    (θ_run Cert.ReferenceIdeal.defs _ _).mono (fun r h c => ⟨(h c).1.trans ?_, (h c).2⟩)
      (Cert.ReferenceIdeal.Value.run (F := Ideal) m' g')⟩
  obtain ⟨hx, hw, hg⟩ := Cert.Finite.real_of_fn _ _ _ _ _ (hpre c)
  obtain ⟨h0, h1, h2, h3, h4⟩ := hagree c
  exact Cert.Equal.result_eq m m' c h0 h1 h2 h3 h4 hx hw hg

/-- All the claims. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, reference_frame, fun m g _ => reference_frame m g trivial,
    IdealRules.named_const.statement Cert.KernelIdeal.κ "two_over_n" .f32 0x3CAAAAAB#32 ((48⁻¹ : ℝ) : EReal) rfl,
    same_result⟩

end Cert.Proof

end
